-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def Pre_Reference (m : (ℓ : Loc Cert.Reference.nD Cert.Reference.τ Cert.Reference.sig) → Buf (Elt Bits) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (Cert.Kernel.threads (F := Bits)) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (Cert.KernelIdeal.threads (F := Ideal)) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def quiescent_Reference [hReference : Cert.Reference.Facts] : Prop :=
  ∀ (m : (ℓ : Loc Cert.Reference.nD Cert.Reference.τ Cert.Reference.sig) → Buf (Elt Bits) ℓ) (g : Dev Cert.Reference.nD → PrngReg), Pre_Reference m →
    θ_run (Cert.Reference.defs (F := Bits)) (onTc (τ := Cert.Reference.τ) (Cert.Reference.main (F := Bits))) ⟨m, fun _ => 0, g⟩ (fun r => (∀ c : Dev Cert.Reference.nD,
      r.2.mem ((c.tc : Thread Cert.Reference.nD Cert.Reference.τ).loc Cert.Reference.main_arg0) = m ((c.tc : Thread Cert.Reference.nD Cert.Reference.τ).loc Cert.Reference.main_arg0)
      ∧ r.2.mem ((c.tc : Thread Cert.Reference.nD Cert.Reference.τ).loc Cert.Reference.main_arg1) = m ((c.tc : Thread Cert.Reference.nD Cert.Reference.τ).loc Cert.Reference.main_arg1))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v0)),
      θ_run (Cert.KernelIdeal.defs (F := Ideal)) (Cert.KernelIdeal.threads (F := Ideal)) ⟨m, fun _ => 0, g⟩ (fun r => ∀ c : Dev Cert.KernelIdeal.nD,
          r.2.mem ((c.tc : Thread Cert.KernelIdeal.nD Cert.KernelIdeal.τ).loc Cert.KernelIdeal.main_v0) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v1) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def bitexact_Kernel_Reference [hKernel : Cert.Kernel.Facts] [hReference : Cert.Reference.Facts] : Prop :=
  ∀ (m : (ℓ : Loc Cert.Kernel.nD Cert.Kernel.τ Cert.Kernel.sig) → Buf (Elt Bits) ℓ) (g : Dev Cert.Kernel.nD → PrngReg)
    (m' : (ℓ : Loc Cert.Reference.nD Cert.Reference.τ Cert.Reference.sig) → Buf (Elt Bits) ℓ) (g' : Dev Cert.Reference.nD → PrngReg), Pre_Kernel m →
    (∀ c : Dev Cert.Kernel.nD,
      m' ((c.tc : Thread Cert.Reference.nD Cert.Reference.τ).loc Cert.Reference.main_arg0) = m ((c.tc : Thread Cert.Kernel.nD Cert.Kernel.τ).loc Cert.Kernel.main_arg0)
      ∧ m' ((c.tc : Thread Cert.Reference.nD Cert.Reference.τ).loc Cert.Reference.main_arg1) = m ((c.tc : Thread Cert.Kernel.nD Cert.Kernel.τ).loc Cert.Kernel.main_arg1)) →
    ∃ (v0 : (c : Dev Cert.Kernel.nD) → Buf (Elt Bits) ((c.tc : Thread Cert.Kernel.nD Cert.Kernel.τ).loc Cert.Kernel.main_v0)),
      θ_run (Cert.Kernel.defs (F := Bits)) (Cert.Kernel.threads (F := Bits)) ⟨m, fun _ => 0, g⟩ (fun r => ∀ c : Dev Cert.Kernel.nD,
          r.2.mem ((c.tc : Thread Cert.Kernel.nD Cert.Kernel.τ).loc Cert.Kernel.main_v0) = v0 c
          ∧ r.2.mem ((c.tc : Thread Cert.Kernel.nD Cert.Kernel.τ).loc Cert.Kernel.main_arg0) = m ((c.tc : Thread Cert.Kernel.nD Cert.Kernel.τ).loc Cert.Kernel.main_arg0)
          ∧ r.2.mem ((c.tc : Thread Cert.Kernel.nD Cert.Kernel.τ).loc Cert.Kernel.main_arg1) = m ((c.tc : Thread Cert.Kernel.nD Cert.Kernel.τ).loc Cert.Kernel.main_arg1))
      ∧ θ_run (Cert.Reference.defs (F := Bits)) (onTc (τ := Cert.Reference.τ) (Cert.Reference.main (F := Bits))) ⟨m', fun _ => 0, g'⟩ (fun r => ∀ c : Dev Cert.Reference.nD,
          r.2.mem ((c.tc : Thread Cert.Reference.nD Cert.Reference.τ).loc Cert.Reference.main_v1) = v0 c
          ∧ r.2.mem ((c.tc : Thread Cert.Reference.nD Cert.Reference.τ).loc Cert.Reference.main_arg0) = m' ((c.tc : Thread Cert.Reference.nD Cert.Reference.τ).loc Cert.Reference.main_arg0)
          ∧ r.2.mem ((c.tc : Thread Cert.Reference.nD Cert.Reference.τ).loc Cert.Reference.main_arg1) = m' ((c.tc : Thread Cert.Reference.nD Cert.Reference.τ).loc Cert.Reference.main_arg1))

def Claim : Prop :=
  ∃ (hKernel : Cert.Kernel.Facts) (hKernelIdeal : Cert.KernelIdeal.Facts) (hReferenceIdeal : Cert.ReferenceIdeal.Facts) (hReference : Cert.Reference.Facts),
    quiescent_Kernel (hKernel := hKernel)
    ∧ quiescent_KernelIdeal (hKernelIdeal := hKernelIdeal)
    ∧ quiescent_ReferenceIdeal (hReferenceIdeal := hReferenceIdeal)
    ∧ quiescent_Reference (hReference := hReference)
    ∧ preserves_Kernel_KernelIdeal
    ∧ algebraic_KernelIdeal_ReferenceIdeal (hKernelIdeal := hKernelIdeal) (hReferenceIdeal := hReferenceIdeal)
    ∧ bitexact_Kernel_Reference (hKernel := hKernel) (hReference := hReference)
-- ==== Kernel.lean ====
abbrev S4x8192 : Shape := ⟨2, ![4, 8192]⟩
abbrev S8192x1024 : Shape := ⟨2, ![8192, 1024]⟩
abbrev S4x1024 : Shape := ⟨2, ![4, 1024]⟩
abbrev S_ : Shape := ⟨0, ![]⟩

abbrev nBuf : Table → Nat
  | .hbm => 3
  | _ => 0

abbrev bufTy : (tb : Table) → Fin (nBuf tb) → BufTy
  | .hbm, ⟨0, _⟩ => ⟨S4x8192, .i32⟩
  | .hbm, ⟨1, _⟩ => ⟨S8192x1024, .f32⟩
  | .hbm, ⟨2, _⟩ => ⟨S4x1024, .f32⟩
  | _, _ => ⟨S4x8192, .i32⟩

abbrev bufScoped : (cs : CoreSpace) → Fin (nBuf (.local .tc cs)) → Bool
  | _, _ => false

abbrev semScoped : Fin 4 → Bool
  | ⟨0, _⟩ => false
  | ⟨1, _⟩ => false
  | ⟨2, _⟩ => false
  | ⟨3, _⟩ => false
  | _ => false

abbrev dmaSemScoped : Fin 1 → Bool
  | ⟨0, _⟩ => false
  | _ => false

abbrev sig : RefSig :=
  ofTables nBuf rfl bufTy 4 1 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_arg1_scs : Ref sig .scScalar := ⟨.hbm, 1, rfl⟩
abbrev main_v0_scs : Ref sig .scScalar := ⟨.hbm, 2, rfl⟩
abbrev sc_start : Sem sig := 0
abbrev sc_done : Sem sig := 1
abbrev sc_go : Sem sig := 2
abbrev sc_taskDone : Sem sig := 3

abbrev nD : Nat := 1
abbrev τ : Topo := Topo.v7x

variable {F : FTy → Type} [FloatOps F]

abbrev grid0 : Pipeline.Grid := ⟨1, ![1], ![false]⟩

abbrev scKind : Fin 1 → Kind := fun | 0 => .scScalar | ⟨_ + 1, h⟩ => absurd h (Nat.not_lt.2 (Nat.le_add_left _ _))
abbrev scNCore : Fin 1 → Nat := fun | 0 => 1 | ⟨_ + 1, h⟩ => absurd h (Nat.not_lt.2 (Nat.le_add_left _ _))
abbrev scNSub : Fin 1 → Nat := fun | 0 => 0 | ⟨_ + 1, h⟩ => absurd h (Nat.not_lt.2 (Nat.le_add_left _ _))
-- ==== Reference.lean ====
abbrev S4x8192 : Shape := ⟨2, ![4, 8192]⟩
abbrev S8192x1024 : Shape := ⟨2, ![8192, 1024]⟩
abbrev S4 : Shape := ⟨1, ![4]⟩
abbrev S_ : Shape := ⟨0, ![]⟩
abbrev S4x1 : Shape := ⟨2, ![4, 1]⟩
abbrev S1 : Shape := ⟨1, ![1]⟩
abbrev S1x1 : Shape := ⟨2, ![1, 1]⟩
abbrev S4x1024 : Shape := ⟨2, ![4, 1024]⟩

abbrev nBuf : Space → Nat
  | .hbm => 26
  | .vmem => 0
  | .smem => 0
  | _ => 0

abbrev bufTy : (tb : Table) → Fin (tcTables nBuf tb) → BufTy
  | .hbm, ⟨0, _⟩ => ⟨S4x8192, .i32⟩
  | .hbm, ⟨1, _⟩ => ⟨S8192x1024, .f32⟩
  | .hbm, ⟨2, _⟩ => ⟨S4, .i32⟩
  | .hbm, ⟨3, _⟩ => ⟨S_, .i32⟩
  | .hbm, ⟨4, _⟩ => ⟨S4, .i32⟩
  | .hbm, ⟨5, _⟩ => ⟨S4, .i1⟩
  | .hbm, ⟨6, _⟩ => ⟨S_, .i32⟩
  | .hbm, ⟨7, _⟩ => ⟨S4, .i32⟩
  | .hbm, ⟨8, _⟩ => ⟨S4, .i32⟩
  | .hbm, ⟨9, _⟩ => ⟨S4, .i32⟩
  | .hbm, ⟨10, _⟩ => ⟨S4x1, .i32⟩
  | .hbm, ⟨11, _⟩ => ⟨S1, .i32⟩
  | .hbm, ⟨12, _⟩ => ⟨S_, .i32⟩
  | .hbm, ⟨13, _⟩ => ⟨S4x1, .i32⟩
  | .hbm, ⟨14, _⟩ => ⟨S4x1, .i1⟩
  | .hbm, ⟨15, _⟩ => ⟨S1x1, .i32⟩
  | .hbm, ⟨16, _⟩ => ⟨S4x1, .i32⟩
  | .hbm, ⟨17, _⟩ => ⟨S4x1, .i1⟩
  | .hbm, ⟨18, _⟩ => ⟨S4x1, .i1⟩
  | .hbm, ⟨19, _⟩ => ⟨S_, .i1⟩
  | .hbm, ⟨20, _⟩ => ⟨S4, .i1⟩
  | .hbm, ⟨21, _⟩ => ⟨S4x1024, .f32⟩
  | .hbm, ⟨22, _⟩ => ⟨S4x1024, .i1⟩
  | .hbm, ⟨23, _⟩ => ⟨S_, .f32⟩
  | .hbm, ⟨24, _⟩ => ⟨S4x1024, .f32⟩
  | .hbm, ⟨25, _⟩ => ⟨S4x1024, .f32⟩
  | _, _ => ⟨S4x8192, .i32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_call0_c : Ref sig .tc := ⟨.hbm, 3, rfl⟩
abbrev main_call0_v0 : Ref sig .tc := ⟨.hbm, 4, rfl⟩
abbrev main_call0_v1 : Ref sig .tc := ⟨.hbm, 5, rfl⟩
abbrev main_call0_c_0 : Ref sig .tc := ⟨.hbm, 6, rfl⟩
abbrev main_call0_v2 : Ref sig .tc := ⟨.hbm, 7, rfl⟩
abbrev main_call0_v3 : Ref sig .tc := ⟨.hbm, 8, rfl⟩
abbrev main_call0_v4 : Ref sig .tc := ⟨.hbm, 9, rfl⟩
abbrev main_call0_v5 : Ref sig .tc := ⟨.hbm, 10, rfl⟩
abbrev main_call0_c_1 : Ref sig .tc := ⟨.hbm, 11, rfl⟩
abbrev main_call0_c_2 : Ref sig .tc := ⟨.hbm, 12, rfl⟩
abbrev main_call0_v6 : Ref sig .tc := ⟨.hbm, 13, rfl⟩
abbrev main_call0_v7 : Ref sig .tc := ⟨.hbm, 14, rfl⟩
abbrev main_call0_v8 : Ref sig .tc := ⟨.hbm, 15, rfl⟩
abbrev main_call0_v9 : Ref sig .tc := ⟨.hbm, 16, rfl⟩
abbrev main_call0_v10 : Ref sig .tc := ⟨.hbm, 17, rfl⟩
abbrev main_call0_v11 : Ref sig .tc := ⟨.hbm, 18, rfl⟩
abbrev main_call0_c_3 : Ref sig .tc := ⟨.hbm, 19, rfl⟩
abbrev main_call0_v12 : Ref sig .tc := ⟨.hbm, 20, rfl⟩
abbrev main_call0_v13 : Ref sig .tc := ⟨.hbm, 21, rfl⟩
abbrev main_call0_v14 : Ref sig .tc := ⟨.hbm, 22, rfl⟩
abbrev main_call0_cst : Ref sig .tc := ⟨.hbm, 23, rfl⟩
abbrev main_call0_v15 : Ref sig .tc := ⟨.hbm, 24, rfl⟩
abbrev main_v1 : Ref sig .tc := ⟨.hbm, 25, rfl⟩

abbrev nD : Nat := 1
abbrev τ : Topo := Topo.v7x

variable {F : FTy → Type} [FloatOps F]
-- ==== Proof.Rows.lean ====
/-
  The value both programs compute: the first four rows of the position table.

  `firstRows w` reads, at row `i` and column `j`, entry `(i, j)` of the `[8192, 1024]` table `w`, for `i < 4`. The
  module also reads the window the kernel copies from (rows 0 to 3, every column) as `firstRows` of the table, and says
  that writing an array whole leaves what was written.
-/
module

public import proofs.«01_k».proof.Proof.Gen.KernelIdeal
public import Idealize.ShloMosaic.Lib.ValueIdxCore

@[expose] public section

noncomputable section

namespace Cert.Proof.Rows

open Idealize.ShloMosaic Idealize.ShloMosaic.ValueIdx Cert.KernelIdeal Cert.KernelIdeal.Gen

/-- A row of the result, as a row of the table. -/
abbrev tableRow (i : Fin 4) : Fin 8192 := i.castLE (by decide)

/-- The first four rows of a table. -/
def firstRows {α : Type} (w : S8192x1024.Idx → α) : S4x1024.Idx → α := fun j => w (ix2 (tableRow (j 0)) (j 1))

theorem firstRows_ix2 {α : Type} (w : S8192x1024.Idx → α) (i : Fin 4) (j : Fin 1024) :
    firstRows w (ix2 i j) = w (ix2 (tableRow i) j) := rfl

-- the kernel's arrays as the sequencer addresses them, and the window of the table the copy reads
local notation "wW" => (Memref.whole Cert.KernelIdeal.main_arg1_scs : Memref Cert.KernelIdeal.sig Kind.scScalar Space.hbm Cert.KernelIdeal.S8192x1024 EltTy.f32)
local notation "oW" => (Memref.whole Cert.KernelIdeal.main_v0_scs : Memref Cert.KernelIdeal.sig Kind.scScalar Space.hbm Cert.KernelIdeal.S4x1024 EltTy.f32)

/-- Rows 0 to 3 of the table, as the kernel's slice names them. -/
abbrev window : Rect S8192x1024 := Rect.unit (s := S8192x1024) ![0, 0] S4x1024.size inb_S8192x1024_S4x1024_0_0

/-- The table seen through that window. -/
abbrev wRows : Memref sig .scScalar .hbm S4x1024 .f32 := (wW).slice window (fun _ => rfl)

variable {F : FTy → Type}

/-- What the copy reads through the window is the table's first four rows. -/
theorem read_wRows (f : S8192x1024.Idx → Elt F .f32) : (wRows).view.read (Elt F) f = firstRows f := by
  funext j
  obtain ⟨a, b, rfl⟩ : ∃ a b, j = ix2 a b := ⟨_, _, eq_ix2 j⟩
  show f (window.emb (ix2 a b)) = f (ix2 (tableRow a) b)
  refine congrArg f (funext fun k => Fin.ext ?_)
  match k with
  | ⟨0, _⟩ => show 0 + 1 * a.val = a.val; omega
  | ⟨1, _⟩ => show 0 + 1 * b.val = b.val; omega

/-- Writing the result array whole leaves exactly what was written, whatever it held. -/
theorem write_oW (old new : S4x1024.Idx → Elt F .f32) : (oW).view.write (Elt F) old new Finset.univ = new :=
  View.write_whole_univ main_v0_scs old new

end Cert.Proof.Rows

end
-- ==== Proof.Copy.lean ====
/-
  The kernel's run: one SparseCore call, on one scalar sequencer, which copies rows 0 to 3 of the position table into the
  result by a single transfer and waits for it.

  The TensorCore keeps the tokens, and the table's rows from 4 on; it lends the sequencer the table's rows 0 to 3 and the
  whole result, and gets them back with the result holding `firstRows` of the table. So the proof also shows that the call
  needs nothing else of the table. The transfer's semaphore starts at zero and is back at zero after the wait.

  Everything here is over any float values `F`: a copy reads none.
-/
module

public import proofs.«01_k».proof.Proof.Rows
public import proofs.«01_k».proof.Proof.Gen.KernelIdeal.Skeleton
public import Idealize.ShloMosaic.Lib.SparseCore.Quiescent
public import Idealize.ShloMosaic.Lib.Pipeline.Kit
public import Idealize.ShloMosaic.Lib.Tactic

@[expose] public section

noncomputable section

namespace Cert.Proof.Copy

open Cert.KernelIdeal Cert.KernelIdeal.Gen Cert.Proof.Rows
open Idealize.ShloMosaic
open Idealize.ShloMosaic.SparseCore (S)
open Idealize.ShloMosaic.SparseCore.Cfg (HIx Pay ownSems0 ownCells mem_ownCells)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

/-! ## The launch's set-up -/

abbrev ΛP : Labels := Pipeline.Sig Λ₀ (Fin 0) fun p => (pcfgs (F := F) p).Adm
abbrev K : SparseCore.Cfg τ sig (ΛP (F := F)) 1 := sc (F := F)
abbrev D [FloatOps F] : Defs nD τ sig (Elt F) (ΛP (F := F)) := Pipeline.defs pcfgs defs₀
abbrev 𝒱₀ : Variants := Variants.none
abbrev 𝒱 : Variants := 𝒱₀.lift
abbrev v₀ : 𝒱.V := Sum.inl none

theorem facts : (K (F := F)).Facts :=
  ⟨show sc_start ≠ sc_taskDone by decide, show (SemLoc.reg sc_start : SemLoc sig).isScoped .scScalar = false by decide,
    show (SemLoc.reg sc_taskDone : SemLoc sig).isScoped .scScalar = false by decide, show (SemLoc.reg sc_go : SemLoc sig).isScoped .scVector = false by decide,
    show (SemLoc.reg sc_done : SemLoc sig).isScoped .tc = false by decide, show ∀ (b : DevRef τ sig) (c : Fin τ.nSC), b.owner = .sc c → sig.taskShared b.table b.idx = false by decide,
    fun _ => rfl⟩

/-- The ghost state: the handshakes' rounds, and beside them the counters a transfer in flight is tracked by. -/
abbrev UH : Type := URounds (GSem nD τ sig) ℕ
abbrev UU : Type := UH × Counters

local notation "𝕄" => MT nD τ sig (HIx 1) (Elt F) ℕ UU ℕ

abbrev EH : Emb UH (MT nD τ sig (HIx 1) (Elt F) ℕ UU ℕ) := embL

variable (m : (ℓ : Loc nD τ sig) → Buf (Elt F) ℓ) (ρ : Dev nD → PrngReg)

local notation "wW" => (Memref.whole Cert.KernelIdeal.main_arg1_scs : Memref Cert.KernelIdeal.sig Kind.scScalar Space.hbm Cert.KernelIdeal.S8192x1024 EltTy.f32)
local notation "oW" => (Memref.whole Cert.KernelIdeal.main_v0_scs : Memref Cert.KernelIdeal.sig Kind.scScalar Space.hbm Cert.KernelIdeal.S4x1024 EltTy.f32)

/-! ## What is lent and what comes back -/

/-- The tokens, the table and the result, on device `d`. -/
abbrev tokLoc (d : Dev nD) : Loc nD τ sig := (SparseCore.T d).loc main_arg0
abbrev wLoc (d : Dev nD) : Loc nD τ sig := (SparseCore.T d).loc main_arg1
abbrev oLoc (d : Dev nD) : Loc nD τ sig := (SparseCore.T d).loc main_v0

/-- What the result must hold: the first four rows of the table the launch finds. -/
abbrev result (d : Dev nD) : Buf (Elt F) (oLoc d) := firstRows (α := Elt F .f32) (m (wLoc d))

/-- The elements of the table in rows 0 to 3: those the copy's window covers. -/
abbrev lent (d : Dev nD) : Finset (Idx (wLoc d)) := (wRows).view.set

/-- The table's rows 0 to 3 at what the launch found, and the rows the TensorCore keeps. -/
abbrev lentPts (d : Dev nD) : sProp 𝕄 := wLoc d ↦[lent d]{fullShare} m (wLoc d)
abbrev keptPts (d : Dev nD) : sProp 𝕄 := wLoc d ↦[Finset.univ \ lent d]{fullShare} m (wLoc d)
/-- The result array whole, at `f`. -/
abbrev oPts (d : Dev nD) (f : Buf (Elt F) (oLoc d)) : sProp 𝕄 := oLoc d ↦{fullShare} f

/-- The call's payloads: out go rows 0 to 3 and the result, whatever it holds; back come the same rows and the result at
    its value. No vector subcore takes part. -/
def P : (K (F := F)).Pay (nD := nD) (Val := Elt F) (Name := ℕ) (U := UU) where
  st := fun _ d _ => iprop(lentPts m d ∗ ∃ f, oPts d f)
  dn := fun _ d _ => iprop(lentPts m d ∗ oPts d (result m d))
  go := fun _ _ _ _ => iprop(emp)
  td := fun _ _ _ _ => iprop(emp)
  x := fun _ _ => iprop(emp)

instance P_storable : (P (F := F) m).IsStorable where
  st _ _ _ := by unfold P; infer_instance
  dn _ _ _ := by unfold P; infer_instance
  go _ _ _ _ := by unfold P; infer_instance
  td _ _ _ _ := by unfold P; infer_instance

variable [FloatOps F]

/-! ## The sequencer's body -/

section Body

variable (d : Dev nD)

/-- The grid's one coordinate. -/
def coordsS (c : Fin (grid0.bound 0)) : grid0.Coords := fun | 0 => c | ⟨_ + 1, h⟩ => absurd h (Nat.not_lt.2 (Nat.le_add_left _ _))

/-- The sequencer's thread, and its transfer semaphore. -/
abbrev seqr (c : Fin (grid0.bound 0)) : Thread nD τ := S d (c.castLE hcore0)
abbrev copied : SemLoc sig := .dma cc0_scoped0.sem

omit [FloatOps F] in
/-- The sequencer's own semaphores at zero: the transfer's, and the others. -/
theorem ownSems0_split (c : Fin (grid0.bound 0)) :
    (ownSems0 (seqr d c) : sProp 𝕄)
      = iprop(semVal (seqr d c, copied) 0 ∗ bigSep ((ownCells (seqr d c)).erase (seqr d c, copied)) fun g => semVal g 0) := by
  unfold SparseCore.Cfg.ownSems0
  exact SparseCore.bigSep_erase' ((mem_ownCells (g := ((seqr d c, copied) : GSem nD τ sig))).mpr ⟨rfl, by show (copied : SemLoc sig).isScoped .scScalar = true; decide⟩)

/-- The kernel's body on its sequencer: from rows 0 to 3 of the table and the result array, the transfer and its wait leave
    the result at the table's first four rows, the rows as they were and every scoped semaphore at zero. -/
theorem body (c : Fin (grid0.bound 0)) (O : CellTallies nD τ sig (HIx 1)) (W : Waits sig (HIx 1)) (hO : ∀ g, O g none = 0) :
    iprop(levAts (K (F := F)).L (K (F := F)).lev ∗ emp ∗ (lentPts m d ∗ ∃ f, oPts d f)
        ∗ scopedBufs (seqr d c) ∗ scopedSems0 (seqr d c) ∗ owes (seqr d c) O W)
      ⊢ wp frame (wpE (defs₀ (F := F)) 𝒱₀ (seqr d c) none) Set.univ
          (cc0_k (coordsS c) wW (Memref.isWhole_whole _) oW (Memref.isWhole_whole _) cc0_scoped0)
          fun _ => iprop((lentPts m d ∗ oPts d (result m d)) ∗ scopedBufs (seqr d c) ∗ scopedSems0 (seqr d c)
            ∗ ∃ W', ⌜∀ p ∈ W', p ∈ W ∨ p.2 = none⌝ ∗ owes (seqr d c) O W') := by
  simp only [cc0_k_eq_skeleton]; unfold cc0_k_skel
  dsimp only [Prog.lift, Bind.bind, Prog.bind, Pure.pure]
  iintro ⟨#Hlv, -, ⟨Hw, %f, Ho⟩, Hsb, Hss, HO⟩
  ihave Hss' := (SparseCore.Cfg.scopedSems0_S_elim (Val := Elt F) d (c.castLE hcore0)) $$ Hss
  icases Hss' with ⟨Hown, Hsubs⟩
  ihave Hown' := (Entails.of_eq (ownSems0_split (F := F) d c)) $$ Hown
  icases Hown' with ⟨Hsem, Hrest⟩
  ihave Hmw := ((K (F := F)).mayWait_none (thr := seqr d c) copied hO) $$ Hlv
  -- the transfer, from the window of the table into the result whole
  iapply (Transfers.wp_dmaLocal countersEmb 𝒱₀ (seqr d c) none (src := wRows) (dst := oW) (fs := m (wLoc d)) (Sd := Finset.univ) (fd := f)
    none ((oW).view.amount copied) rfl (View.amount_pos _ _ (show 0 < S4x1024.numel by decide)) (Finset.subset_univ _)) $$ [Hw Ho Hsem]
  · isplitl [Hw]; · iexact Hw
    isplitl [Ho]; · iexact Ho
    iexact Hsem
  iintro Hfl
  -- its wait
  iapply (Transfers.wp_waitLocalO countersEmb 𝒱₀ (seqr d c) none none rfl) $$ [Hfl HO Hmw]
  · isplitl [Hfl]; · iexact Hfl
    isplitl [HO]; · iexact HO
    iexact Hmw
  iintro ⟨⟨Ho, Hw⟩, Hsem, HO⟩
  sl_step
  isplitl [Hw Ho]
  · isplitl [Hw]; · iexact Hw
    ihave Ho' := (Entails.of_eq (congrArg (fun g => (oPts d g : sProp 𝕄))
      ((write_oW (F := F) f _).trans (read_wRows (F := F) (m (wLoc d)))))) $$ Ho
    iexact Ho'
  isplitl [Hsb]; · iexact Hsb
  isplitl [Hsem Hrest Hsubs]
  · iapply (SparseCore.Cfg.scopedSems0_S_intro (Val := Elt F) d _)
    isplitl [Hsem Hrest]
    · rw [ownSems0_split]; isplitl [Hsem] <;> iassumption
    · iexact Hsubs
  iexists (insert (copied, (none : HIx 1)) W); isplitr
  · ipureintro; exact fun p hp => (Finset.mem_insert.mp hp).elim (fun h => .inr (h ▸ rfl)) .inl
  · iexact HO

end Body

/-! ## The launch theorem's obligations -/

theorem defs₀_scalar (c : Fin τ.nSC) :
    defs₀ (F := F) (.scScalar c) 0 ()
      = SparseCore.onCore hcore0 (fun c => cc0_k (coordsS c) wW (Memref.isWhole_whole _) oW (Memref.isWhole_whole _) cc0_scoped0) ⟨⟩ c := rfl

/-- The call's kernel, on the one sequencer of its grid, is `body`: its one wait is recorded at no stage of the call's. -/
theorem scalarObl : (K (F := F)).ScalarObl (D (F := F)) 𝒱 (P m) v₀ 0 := by
  intro d c O W hO _ _
  simp only [show (P m).ox = fun _ _ => 0 from rfl, add_zero]
  change _ ⊢ wp _ _ _ (Pipeline.liftProg (defs₀ (F := F) (.scScalar ((K (F := F)).core 0 c)) 0 ())) _
  refine BI.Entails.trans ?_ (Pipeline.wp_liftProg (D (F := F)) (Pipeline.defs_kernel pcfgs defs₀) 𝒱₀ _ Set.univ none _ _)
  have hc : ((K (F := F)).core 0 c).val < grid0.bound 0 := c.isLt
  rw [defs₀_scalar]; simp only [SparseCore.onCore, hc, ↓reduceDIte]
  show iprop(_ ∗ _ ∗ (lentPts m d ∗ ∃ f, oPts d f) ∗ _) ⊢ wp _ _ _ _ (fun _ => iprop((lentPts m d ∗ oPts d (result m d)) ∗ _))
  refine (body m d ⟨_, hc⟩ O W hO).trans (wp_mono frame _ _ fun _ => ?_)
  iintro ⟨Hdn, Hsb, Hss, %W', %hW', HO⟩
  isplitl [Hdn]; · iexact Hdn
  isplitl [Hsb]; · iexact Hsb
  isplitl [Hss]; · iexact Hss
  iexists W'; isplitr
  · ipureintro; exact fun p hp => (hW' p hp).imp_right .inl
  · iexact HO

/-- The launch's ghost state: the handshakes' rounds; the kernel asks for nothing of its own. -/
def u₀ : UU := (initOf (K (F := F)).hsCells (K (F := F)).hsToks, 1)

theorem hu₀ : (ownU (u₀ (F := F)) : sProp 𝕄)
    ⊢ |={Set.univ}=> iprop(BI.own (EH (initOf (K (F := F)).hsCells (K (F := F)).hsToks)) ∗ (bigSep Finset.univ fun _ : Dev nD => iprop(emp))
        ∗ bigSep Finset.univ fun thr : Thread nD τ => bigSep Finset.univ fun q : Fin 1 => (P m).x q thr) := by
  have hx : (bigSep Finset.univ fun thr : Thread nD τ => bigSep Finset.univ fun q : Fin 1 => (P m).x q thr) = (iprop(emp) : sProp 𝕄) :=
    (bigSep_congr fun _ _ => bigSep_emp_const _).trans (bigSep_emp_const _)
  rw [hx, show (bigSep Finset.univ fun _ : Dev nD => iprop(emp)) = (iprop(emp) : sProp 𝕄) from bigSep_emp_const _]
  unfold u₀
  iintro Hu
  ihave H := (ownU_pair _ _) $$ Hu
  icases H with ⟨HH, -⟩
  imodintro
  isplitl [HH]; · iexact HH
  isplitr <;> iempintro

/-! ## The TensorCore's program -/

/-- What it ends with: the tokens and the table as it found them, the result at its value. -/
abbrev FIN (d : Dev nD) : sProp 𝕄 :=
  iprop((tokLoc d ↦{fullShare} m (tokLoc d)) ∗ (wLoc d ↦{fullShare} m (wLoc d)) ∗ oPts d (result m d))

omit [FloatOps F] in
/-- The TensorCore's arrays at the launch: tokens, table, result. -/
theorem arrays_eq (d : Dev nD) :
    (unscopedBufs d (fun b => m ((SparseCore.T d).loc b)) : sProp 𝕄)
      = iprop((tokLoc d ↦{fullShare} m (tokLoc d)) ∗ (wLoc d ↦{fullShare} m (wLoc d)) ∗ oPts d (m (oLoc d))) := by
  unfold unscopedBufs
  rw [show (Finset.univ.filter fun b : Ref sig .tc => ¬ b.isScoped) = {main_arg0, main_arg1, main_v0} by decide,
    SparseCore.bigSep_insert' (by decide), SparseCore.bigSep_insert' (by decide), bigSep_singleton]

/-- The grid has one sequencer, so what the call takes and gives is that sequencer's. -/
theorem st_eq (d : Dev nD) :
    (bigSep Finset.univ fun c : Fin ((K (F := F)).nCore 0) => (P m).st 0 d c) = iprop(lentPts m d ∗ ∃ f, oPts d f) :=
  bigSep_univ_of_subsingleton (show Fin ((K (F := F)).nCore 0) from (0 : Fin 1))
theorem dn_eq (d : Dev nD) :
    (bigSep Finset.univ fun c : Fin ((K (F := F)).nCore 0) => (P m).dn 0 d c) = iprop(lentPts m d ∗ oPts d (result m d)) :=
  bigSep_univ_of_subsingleton (show Fin ((K (F := F)).nCore 0) from (0 : Fin 1))

/-- The TensorCore's program is the call: it lends rows 0 to 3 and the result, and joins the rows it gets back to those it
    kept. -/
theorem hmain (κ : GSem nD τ sig → ℕ) (d : Dev nD) :
    iprop((K (F := F)).ctx EH (P m) κ ∗ (K (F := F)).tcSt EH d 0 ∗ (K (F := F)).tcRes m ρ d ∗ emp)
      ⊢ wp frame (wpE ((K (F := F)).defs (D (F := F))) 𝒱 (SparseCore.T d) none) Set.univ (main d)
          fun _ => iprop((K (F := F)).tcSt EH d 1 ∗ FIN m d ∗ (K (F := F)).tcEnd d) := by
  unfold SparseCore.Cfg.tcRes SparseCore.Cfg.tcEnd
  rw [arrays_eq]
  simp only [main, wp_bind, wp_pure]
  iintro ⟨#Hctx, Hst, ⟨Hb, ⟨Htok, Hw, Ho⟩, Hts, -⟩, -⟩
  ihave Hw' := (pointsTo_split_subset (ℓ := wLoc d) (q := fullShare) (f := m (wLoc d)) (Finset.subset_univ (lent d))).1 $$ Hw
  icases Hw' with ⟨Hlent, Hkept⟩
  iapply ((K (F := F)).wp_run (D (F := F)) 𝒱 (EH := EH) (P := P m) κ d 0) $$ [Hst Hlent Ho Hb Htok Hkept Hts]
  isplitr; · iexact Hctx
  isplitl [Hst]; · iexact Hst
  isplitl [Hlent Ho]
  · rw [st_eq]
    isplitl [Hlent]; · iexact Hlent
    iexists _; iexact Ho
  iintro ⟨Hst, Hdn⟩
  ihave Hdn' := (Entails.of_eq (dn_eq m d)) $$ Hdn
  icases Hdn' with ⟨Hlent, Ho⟩
  ihave Hw := (pointsTo_split_subset (ℓ := wLoc d) (q := fullShare) (f := m (wLoc d)) (Finset.subset_univ (lent d))).2 $$ [Hlent Hkept]
  · isplitl [Hlent] <;> iassumption
  imodintro
  isplitl [Hst]; · iexact Hst
  isplitr [Hb Hts]
  · isplitl [Htok]; · iexact Htok
    isplitl [Hw] <;> iassumption
  isplitl [Hb] <;> iassumption

/-- What holds of the final memory on device `d`. -/
def fq (d : Dev nD) (s : Phys nD τ sig (Elt F)) : Prop :=
  s.mem.mem (oLoc d) = result m d ∧ s.mem.mem (tokLoc d) = m (tokLoc d) ∧ s.mem.mem (wLoc d) = m (wLoc d)

omit [FloatOps F] in
/-- An array held whole at `f` is `f` in the memory. -/
theorem agree (s : Phys nD τ sig (Elt F)) (ℓ : Loc nD τ sig) (f : Buf (Elt F) ℓ) :
    iprop(SI s ∗ (ℓ ↦{fullShare} f)) ⊢ (iprop(⌜s.mem.mem ℓ = f⌝ ∗ SI s) : sProp 𝕄) := by
  iintro H
  ihave H' := (persistent_entails_right (SI_pointsTo_agree (st := s) (ℓ := ℓ) (I := Finset.univ) (q := fullShare) (f := f))) $$ H
  icases H' with ⟨%h, HSI, -⟩
  isplitr
  · ipureintro; exact funext fun i => h i (Finset.mem_univ i)
  · iexact HSI

theorem hfin (d : Dev nD) (s : Phys nD τ sig (Elt F)) : iprop(FIN m d ∗ SI s) ⊢ (⌜fq m d s⌝ : sProp 𝕄) := by
  iintro ⟨⟨Htok, Hw, Ho⟩, HSI⟩
  ihave H := (agree s (tokLoc d) (m (tokLoc d))) $$ [HSI Htok]
  · isplitl [HSI] <;> iassumption
  icases H with ⟨%ht, HSI⟩
  ihave H := (agree s (wLoc d) (m (wLoc d))) $$ [HSI Hw]
  · isplitl [HSI] <;> iassumption
  icases H with ⟨%hw, HSI⟩
  ihave H := (agree s (oLoc d) (result m d)) $$ [HSI Ho]
  · isplitl [HSI] <;> iassumption
  icases H with ⟨%ho, -⟩
  ipureintro; exact ⟨ho, ht, hw⟩

/-! ## The run -/

/-- The program's outcome: the result holds the table's first four rows, tokens and table are as they were, and every
    semaphore counter is zero. -/
def QC : PUnit × MemSt nD τ sig (Elt F) → Prop := fun r =>
  (∀ c : Dev nD, r.2.mem (oLoc c) = result m c ∧ r.2.mem (tokLoc c) = m (tokLoc c) ∧ r.2.mem (wLoc c) = m (wLoc c)) ∧ r.2.sem = fun _ => 0

/-- Every fair execution of the program from memory `m` and zero counters ends, in that outcome. -/
theorem run_main [∀ e, Nonempty (Elt F e)] : θ_run (Cert.KernelIdeal.defs (F := F)) (Cert.KernelIdeal.threads (F := F)) ⟨m, fun _ => 0, ρ⟩ (QC m) :=
  SparseCore.Cfg.θ_run_sc_quiescent (K := K (F := F)) (D := D (F := F)) (𝒱 := 𝒱) (EH := EH) (P := P m) (A := ∅) facts v₀
    (fun q _ => match q with | 0 => scalarObl m)
    (fun q hq => match q with | 0 => nomatch hq)
    (fun q hq => match q with | 0 => nomatch hq)
    m ρ main (fun _ => iprop(emp)) (FIN m) (u₀ (F := F)) (sep_elim_left.trans (hu₀ m)) (hmain m ρ) (fq m) (hfin m) (QC m) (fun _ h hz => ⟨h, hz⟩)

end Cert.Proof.Copy

end
-- ==== Proof.Taken.lean ====
/-
  What the reference computes: taking rows 0, 1, 2, 3 of a table, the way `jnp.take` spells it, is the table's first
  four rows.

  The reference numbers the rows it wants by an iota over the batch, wraps a negative number around (none is), gathers
  those rows, and puts a NaN in every row whose number is outside the table (none is). Both "none is" are facts about
  the four numbers 0, 1, 2, 3. Nothing here reads a float, so the equation holds for any float values.
-/
module

public import proofs.«01_k».proof.Proof.Rows
public import proofs.«01_k».proof.Proof.Gen.ReferenceIdeal
public import Idealize.ShloMosaic.Lib.ReduceAll
public import Idealize.ShloMosaic.Lib.Routing.Ops

@[expose] public section

noncomputable section

namespace Cert.Proof.Taken

open Idealize.ShloMosaic Idealize.ShloMosaic.ValueIdx Cert.ReferenceIdeal Cert.ReferenceIdeal.Gen
open Cert.Proof.Rows (firstRows tableRow)

/-- The row numbers the reference takes, one per row of the result: an iota, wrapped around where negative. -/
def rowNumber : IVec S4x1 32 :=
  broadcastInDim S4x1 ![0] bcast_S4_S4x1_0 (select (cmpi .slt (iotaInDim S4 32 0) (broadcastInDim S4 ![] bcast_S_S4 (constantI S_ 32 0#32)))
    (addi (iotaInDim S4 32 0) (broadcastInDim S4 ![] bcast_S_S4 (constantI S_ 32 8192#32))) (iotaInDim S4 32 0))

/-- Whether a row number lies in the table: at least 0, at most 8191. -/
def inTable : IVec S4x1 1 :=
  andi (cmpi .sge rowNumber (broadcastInDim S4x1 ![] bcast_S_S4x1 (constantI S_ 32 0#32)))
    (cmpi .sle rowNumber (broadcastInDim S4x1 ![0, 1] bcast_S1x1_S4x1_0_1 (broadcastInDim S1x1 ![1] bcast_S1_S1x1_1 (constantI S1 32 8191#32))))

/-- Row `i` of the result is row number `i`. -/
theorem rowNumber_ix2 : ∀ i : Fin 4, rowNumber (ix2 i (0 : Fin 1)) = BitVec.ofNat 32 (tableRow i).val := by decide

/-- Every row number lies in the table. -/
theorem inTable_ix2 : ∀ (i : Fin 4) (j : Fin 1), inTable (ix2 i j) = 1#1 := by decide

/-- So the mask the reference reduces out of `inTable` is set at every row. -/
theorem mask_eq_one (i : S4.Idx) : Host.reduce IntOp.andi inTable (constantI S_ 1 1#1) reducesTo_S4x1_S4_d1 h_S_ i = 1#1 :=
  Host.reduce_andi_one _ _ _ _ _ rfl fun k => by
    rw [eq_ix2 k]; exact inTable_ix2 _ _

variable {F : FTy → Type} [FloatOps F]

/-- The reference's result as a function of the table, as the program composes it. -/
def taken (w : FVec F S8192x1024 .f32) : FVec F S4x1024 .f32 :=
  select (broadcastInDim S4x1024 ![0] bcast_S4_S4x1024_0 (Host.reduce IntOp.andi inTable (constantI S_ 1 1#1) reducesTo_S4x1_S4_d1 h_S_))
    (Host.gather gather_S8192x1024_S4x1_S4x1024_1_0_n_n_0_1_11024 w rowNumber)
    (broadcastInDim S4x1024 ![] bcast_S_S4x1024 (constant S_ .f32 0x7FC00000#32))

/-- The reference's result is the table's first four rows. -/
theorem taken_eq (w : FVec F S8192x1024 .f32) : taken w = firstRows w := by
  funext j
  obtain ⟨a, b, rfl⟩ : ∃ a b, j = ix2 a b := ⟨_, _, eq_ix2 j⟩
  refine (if_pos (mask_eq_one _)).trans ?_
  exact Routing.gather_row gather_S8192x1024_S4x1_S4x1024_1_0_n_n_0_1_11024 rfl rfl rfl rfl rfl w rowNumber a b (tableRow a)
    (rowNumber_ix2 a) (by decide)

end Cert.Proof.Taken

end
-- ==== Proof.lean ====
/-
  The proof of `Cert.Claim` (proofs.«01_k».proof.Defs).

  The kernel's run (Proof/Copy.lean) and the reference's result (Proof/Taken.lean) both come to the first four rows of the
  position table (Proof/Rows.lean), for any float values. The claims at the machine's words and at the extended reals are
  that one fact read twice.
-/
module

public import proofs.«01_k».proof.Defs
public import proofs.«01_k».proof.Proof.Copy
public import proofs.«01_k».proof.Proof.Taken
public import proofs.«01_k».proof.Proof.Gen.Kernel
public import proofs.«01_k».proof.Proof.Gen.ReferenceIdeal.Run
public import proofs.«01_k».proof.Proof.Gen.Reference.Run
public import Idealize.ShloMosaic.Adequacy
public import Idealize.ShloMosaic.Init

@[expose] public section

noncomputable section

namespace Cert.Proof

open Idealize.ShloMosaic Idealize.SL.Sem
open Cert.Proof.Copy (run_main)
open Cert.Proof.Rows (firstRows)
open Cert.Proof.Taken (taken_eq)

/-- The kernel runs, leaves tokens and table alone, and ends with every counter at zero. -/
theorem frame_kernel : Cert.quiescent_Kernel := fun m ρ _ =>
  (θ_run Cert.KernelIdeal.defs _ _).mono (fun _ h => ⟨fun c => (h.1 c).2, h.2⟩) (run_main (F := Bits) m ρ)

/-- The same at the extended reals. -/
theorem frame_kernelIdeal : Cert.quiescent_KernelIdeal := fun m ρ _ =>
  (θ_run Cert.KernelIdeal.defs _ _).mono (fun _ h => ⟨fun c => (h.1 c).2, h.2⟩) (run_main (F := Ideal) m ρ)

/-- The reference runs and leaves its arguments alone; it has no semaphores. -/
theorem frame_referenceIdeal : Cert.quiescent_ReferenceIdeal := fun m ρ _ =>
  (θ_run Cert.ReferenceIdeal.defs _ _).mono (fun r h => ⟨fun c => (h c).2, sem_eq_zero_of_no_sems (by decide) r.2⟩)
    (Cert.ReferenceIdeal.Value.run (F := Ideal) m ρ)

/-- The same at the machine's words. -/
theorem frame_reference : Cert.quiescent_Reference := fun m ρ _ =>
  (θ_run Cert.Reference.defs _ _).mono (fun r h => ⟨fun c => (h c).2, sem_eq_zero_of_no_sems (by decide) r.2⟩)
    (Cert.Reference.Value.run (F := Bits) m ρ)

/-- At the extended reals, kernel and reference end with the same result: the first four rows of the table. -/
theorem algebraic : Cert.algebraic_KernelIdeal_ReferenceIdeal := fun m ρ m' ρ' _ hagree =>
  ⟨fun c => Copy.result m c,
    (θ_run Cert.KernelIdeal.defs _ _).mono (fun _ h c => h.1 c) (run_main (F := Ideal) m ρ),
    (θ_run Cert.ReferenceIdeal.defs _ _).mono
      (fun _ h c => ⟨(h c).1.trans ((taken_eq _).trans (congrArg (firstRows (α := Elt Ideal .f32)) (hagree c).2)), (h c).2⟩)
      (Cert.ReferenceIdeal.Value.run (F := Ideal) m' ρ')⟩

/-- At the machine's words, too, bit for bit. -/
theorem bitexact : Cert.bitexact_Kernel_Reference := fun m ρ m' ρ' _ hagree =>
  ⟨fun c => Copy.result (F := Bits) m c,
    (θ_run Cert.KernelIdeal.defs _ _).mono (fun _ h c => h.1 c) (run_main (F := Bits) m ρ),
    (θ_run Cert.Reference.defs _ _).mono
      (fun _ h c => ⟨(h c).1.trans ((taken_eq _).trans (congrArg (firstRows (α := Elt Bits .f32)) (hagree c).2)), (h c).2⟩)
      (Cert.Reference.Value.run (F := Bits) m' ρ')⟩

theorem claim : Cert.Claim :=
  ⟨Cert.Kernel.Gen.facts, Cert.KernelIdeal.Gen.facts, Cert.ReferenceIdeal.Gen.facts, Cert.Reference.Gen.facts,
    frame_kernel, frame_kernelIdeal, frame_referenceIdeal, frame_reference, trivial, algebraic, bitexact⟩

end Cert.Proof

end
